-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x3E3504F3#32 (((Real.sqrt 32)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x64 : Shape := ⟨3, ![8, 256, 64]⟩
abbrev S64x64 : Shape := ⟨2, ![64, 64]⟩
abbrev S8x64x256 : Shape := ⟨3, ![8, 64, 256]⟩
abbrev S64x524288 : Shape := ⟨2, ![64, 524288]⟩
abbrev S1x64x128 : Shape := ⟨3, ![1, 64, 128]⟩
abbrev S1x64x256 : Shape := ⟨3, ![1, 64, 256]⟩
abbrev S64x32768 : Shape := ⟨2, ![64, 32768]⟩
abbrev S64x128 : Shape := ⟨2, ![64, 128]⟩
abbrev S64x256 : Shape := ⟨2, ![64, 256]⟩
abbrev S32x64 : Shape := ⟨2, ![32, 64]⟩
abbrev S32x128 : Shape := ⟨2, ![32, 128]⟩
abbrev S32x256 : Shape := ⟨2, ![32, 256]⟩
abbrev S128x256 : Shape := ⟨2, ![128, 256]⟩
abbrev S128 : Shape := ⟨1, ![128]⟩
abbrev S128x1 : Shape := ⟨2, ![128, 1]⟩
abbrev S1x256 : Shape := ⟨2, ![1, 256]⟩
abbrev S64x1 : Shape := ⟨2, ![64, 1]⟩
abbrev S524288x64 : Shape := ⟨2, ![524288, 64]⟩

abbrev nBuf : Space → Nat
  | .hbm => 7
  | .vmem => 7
  | .smem => 0
  | _ => 0

abbrev bufTy : (tb : Table) → Fin (tcTables nBuf tb) → BufTy
  | .hbm, ⟨0, _⟩ => ⟨S8x256x64, .f32⟩
  | .hbm, ⟨1, _⟩ => ⟨S8x256x64, .f32⟩
  | .hbm, ⟨2, _⟩ => ⟨S64x64, .f32⟩
  | .hbm, ⟨3, _⟩ => ⟨S8x64x256, .f32⟩
  | .hbm, ⟨4, _⟩ => ⟨S8x64x256, .f32⟩
  | .hbm, ⟨5, _⟩ => ⟨S64x524288, .f32⟩
  | .hbm, ⟨6, _⟩ => ⟨S524288x64, .f32⟩
  | .local _ .vmem, ⟨0, _⟩ => ⟨S1x64x128, .f32⟩
  | .local _ .vmem, ⟨1, _⟩ => ⟨S1x64x128, .f32⟩
  | .local _ .vmem, ⟨2, _⟩ => ⟨S1x64x256, .f32⟩
  | .local _ .vmem, ⟨3, _⟩ => ⟨S1x64x256, .f32⟩
  | .local _ .vmem, ⟨4, _⟩ => ⟨S64x64, .f32⟩
  | .local _ .vmem, ⟨5, _⟩ => ⟨S64x32768, .f32⟩
  | .local _ .vmem, ⟨6, _⟩ => ⟨S64x32768, .f32⟩
  | _, _ => ⟨S8x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "scale" => some (((Real.sqrt 32)⁻¹ : ℝ) : EReal)
  | _ => none
-- ==== ReferenceIdeal.lean ====
abbrev S8x256x64 : Shape := ⟨3, ![8, 256, 64]⟩
abbrev S64x64 : Shape := ⟨2, ![64, 64]⟩
abbrev S2048x64 : Shape := ⟨2, ![2048, 64]⟩
abbrev S4096x64 : Shape := ⟨2, ![4096, 64]⟩
abbrev S2048 : Shape := ⟨1, ![2048]⟩
abbrev S2048x256 : Shape := ⟨2, ![2048, 256]⟩
abbrev S524288 : Shape := ⟨1, ![524288]⟩
abbrev S8x1x256 : Shape := ⟨3, ![8, 1, 256]⟩
abbrev S8x256x256 : Shape := ⟨3, ![8, 256, 256]⟩
abbrev S_ : Shape := ⟨0, ![]⟩
abbrev S4096x32 : Shape := ⟨2, ![4096, 32]⟩
abbrev S524288x1 : Shape := ⟨2, ![524288, 1]⟩
abbrev S524288x32 : Shape := ⟨2, ![524288, 32]⟩
abbrev S524288x64 : Shape := ⟨2, ![524288, 64]⟩

abbrev nBuf : Space → Nat
  | .hbm => 88
  | .vmem => 0
  | .smem => 0
  | _ => 0

abbrev bufTy : (tb : Table) → Fin (tcTables nBuf tb) → BufTy
  | .hbm, ⟨0, _⟩ => ⟨S8x256x64, .f32⟩
  | .hbm, ⟨1, _⟩ => ⟨S8x256x64, .f32⟩
  | .hbm, ⟨2, _⟩ => ⟨S64x64, .f32⟩
  | .hbm, ⟨3, _⟩ => ⟨S2048x64, .f32⟩
  | .hbm, ⟨4, _⟩ => ⟨S2048x64, .f32⟩
  | .hbm, ⟨5, _⟩ => ⟨S4096x64, .f32⟩
  | .hbm, ⟨6, _⟩ => ⟨S2048, .i32⟩
  | .hbm, ⟨7, _⟩ => ⟨S2048x256, .i32⟩
  | .hbm, ⟨8, _⟩ => ⟨S524288, .i32⟩
  | .hbm, ⟨9, _⟩ => ⟨S2048, .i32⟩
  | .hbm, ⟨10, _⟩ => ⟨S8x1x256, .i32⟩
  | .hbm, ⟨11, _⟩ => ⟨S8x256x256, .i32⟩
  | .hbm, ⟨12, _⟩ => ⟨S524288, .i32⟩
  | .hbm, ⟨13, _⟩ => ⟨S_, .i32⟩
  | .hbm, ⟨14, _⟩ => ⟨S524288, .i32⟩
  | .hbm, ⟨15, _⟩ => ⟨S524288, .i32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64x64, .f32⟩
  | .hbm, ⟨21, _⟩ => ⟨S4096x64, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S_, .i32⟩
  | .hbm, ⟨27, _⟩ => ⟨S524288, .i32⟩
  | .hbm, ⟨28, _⟩ => ⟨S524288, .i1⟩
  | .hbm, ⟨29, _⟩ => ⟨S_, .i32⟩
  | .hbm, ⟨30, _⟩ => ⟨S524288, .i32⟩
  | .hbm, ⟨31, _⟩ => ⟨S524288, .i32⟩
  | .hbm, ⟨32, _⟩ => ⟨S524288, .i32⟩
  | .hbm, ⟨33, _⟩ => ⟨S524288x1, .i32⟩
  | .hbm, ⟨34, _⟩ => ⟨S524288x32, .f32⟩
  | .hbm, ⟨35, _⟩ => ⟨S_, .i32⟩
  | .hbm, ⟨36, _⟩ => ⟨S524288, .i32⟩
  | .hbm, ⟨37, _⟩ => ⟨S524288, .i1⟩
  | .hbm, ⟨38, _⟩ => ⟨S_, .i32⟩
  | .hbm, ⟨39, _⟩ => ⟨S524288, .i32⟩
  | .hbm, ⟨40, _⟩ => ⟨S524288, .i32⟩
  | .hbm, ⟨41, _⟩ => ⟨S524288, .i32⟩
  | .hbm, ⟨42, _⟩ => ⟨S524288x1, .i32⟩
  | .hbm, ⟨43, _⟩ => ⟨S524288x32, .f32⟩
  | .hbm, ⟨44, _⟩ => ⟨S524288x32, .f32⟩
  | .hbm, ⟨45, _⟩ => ⟨S_, .f32⟩
  | .hbm, ⟨46, _⟩ => ⟨S524288, .f32⟩
  | .hbm, ⟨47, _⟩ => ⟨S524288, .f32⟩
  | .hbm, ⟨48, _⟩ => ⟨S_, .f32⟩
  | .hbm, ⟨49, _⟩ => ⟨S2048, .f32⟩
  | .hbm, ⟨50, _⟩ => ⟨S524288x1, .i32⟩
  | .hbm, ⟨51, _⟩ => ⟨S2048, .f32⟩
  | .hbm, ⟨52, _⟩ => ⟨S_, .i32⟩
  | .hbm, ⟨53, _⟩ => ⟨S524288, .i32⟩
  | .hbm, ⟨54, _⟩ => ⟨S524288, .i1⟩
  | .hbm, ⟨55, _⟩ => ⟨S_, .i32⟩
  | .hbm, ⟨56, _⟩ => ⟨S524288, .i32⟩
  | .hbm, ⟨57, _⟩ => ⟨S524288, .i32⟩
  | .hbm, ⟨58, _⟩ => ⟨S524288, .i32⟩
  | .hbm, ⟨59, _⟩ => ⟨S524288x1, .i32⟩
  | .hbm, ⟨60, _⟩ => ⟨S524288, .f32⟩
  | .hbm, ⟨61, _⟩ => ⟨S524288, .f32⟩
  | .hbm, ⟨62, _⟩ => ⟨S_, .i32⟩
  | .hbm, ⟨63, _⟩ => ⟨S524288, .i32⟩
  | .hbm, ⟨64, _⟩ => ⟨S524288, .i1⟩
  | .hbm, ⟨65, _⟩ => ⟨S_, .i32⟩
  | .hbm, ⟨66, _⟩ => ⟨S524288, .i32⟩
  | .hbm, ⟨67, _⟩ => ⟨S524288, .i32⟩
  | .hbm, ⟨68, _⟩ => ⟨S524288, .i32⟩
  | .hbm, ⟨69, _⟩ => ⟨S524288x1, .i32⟩
  | .hbm, ⟨70, _⟩ => ⟨S524288x64, .f32⟩
  | .hbm, ⟨71, _⟩ => ⟨S_, .i32⟩
  | .hbm, ⟨72, _⟩ => ⟨S524288, .i32⟩
  | .hbm, ⟨73, _⟩ => ⟨S524288, .i32⟩
  | .hbm, ⟨74, _⟩ => ⟨S_, .i32⟩
  | .hbm, ⟨75, _⟩ => ⟨S524288, .i32⟩
  | .hbm, ⟨76, _⟩ => ⟨S524288, .i1⟩
  | .hbm, ⟨77, _⟩ => ⟨S_, .i32⟩
  | .hbm, ⟨78, _⟩ => ⟨S524288, .i32⟩
  | .hbm, ⟨79, _⟩ => ⟨S524288, .i32⟩
  | .hbm, ⟨80, _⟩ => ⟨S524288, .i32⟩
  | .hbm, ⟨81, _⟩ => ⟨S524288x1, .i32⟩
  | .hbm, ⟨82, _⟩ => ⟨S524288x64, .f32⟩
  | .hbm, ⟨83, _⟩ => ⟨S524288x64, .f32⟩
  | .hbm, ⟨84, _⟩ => ⟨S524288x64, .f32⟩
  | .hbm, ⟨85, _⟩ => ⟨S524288x1, .f32⟩
  | .hbm, ⟨86, _⟩ => ⟨S524288x64, .f32⟩
  | .hbm, ⟨87, _⟩ => ⟨S524288x64, .f32⟩
  | _, _ => ⟨S8x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_3 : Ref sig .tc := ⟨.hbm, 35, rfl⟩
abbrev main_v27 : Ref sig .tc := ⟨.hbm, 36, rfl⟩
abbrev main_v28 : Ref sig .tc := ⟨.hbm, 37, rfl⟩
abbrev main_c_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_7 : Ref sig .tc := ⟨.hbm, 52, rfl⟩
abbrev main_v40 : Ref sig .tc := ⟨.hbm, 53, rfl⟩
abbrev main_v41 : Ref sig .tc := ⟨.hbm, 54, rfl⟩
abbrev main_c_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_9 : Ref sig .tc := ⟨.hbm, 62, rfl⟩
abbrev main_v48 : Ref sig .tc := ⟨.hbm, 63, rfl⟩
abbrev main_v49 : Ref sig .tc := ⟨.hbm, 64, rfl⟩
abbrev main_c_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_11 : Ref sig .tc := ⟨.hbm, 71, rfl⟩
abbrev main_v55 : Ref sig .tc := ⟨.hbm, 72, rfl⟩
abbrev main_v56 : Ref sig .tc := ⟨.hbm, 73, rfl⟩
abbrev main_c_12 : Ref sig .tc := ⟨.hbm, 74, rfl⟩
abbrev main_v57 : Ref sig .tc := ⟨.hbm, 75, rfl⟩
abbrev main_v58 : Ref sig .tc := ⟨.hbm, 76, rfl⟩
abbrev main_c_13 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Proof.Block.lean ====
/- One grid point's stores. The kernel's body writes its output block as 128 slabs of 256 columns: slab `i` holds, for
   every feature row, the squared difference of query column `i` and all key columns, times row `i` of the weights. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof.Block

open Idealize.ShloMosaic Idealize.SL.Sem Cert.KernelIdeal Cert.KernelIdeal.Gen

/-- Column `i` of the query block is a slice of it. -/
theorem col_slices (i : Nat) (h : i < 128) : S64x128.Slices ![0, i] S64x1 :=
  ⟨rfl, fun a => by fin_cases a <;> simp [S64x1, S64x128]; omega⟩

/-- Row `i` of the weights is a slice of them. -/
theorem row_slices (i : Nat) (h : i < 128) : S128x256.Slices ![i, 0] S1x256 :=
  ⟨rfl, fun a => by fin_cases a <;> simp [S1x256, S128x256]; omega⟩

/-- Slab `i` lies inside the output block. -/
theorem slab_inb (i : Nat) (h : i < 128) (a : Fin 2) :
    (![0, 256 * i] : Fin 2 → Nat) a + S64x256.size a ≤ S64x32768.size a := by
  fin_cases a <;> simp [S64x256, S64x32768]; omega

/-- Slab `i`'s content, from the query block, the key block and the weights. -/
def slab {F : FTy → Type} [FloatOps F] [Named F] (i : Nat) (h : i < 128) (v1 : FVec F S64x128 .f32) (v3 : FVec F S64x256 .f32)
    (v16 : FVec F S128x256 .f32) : FVec F S64x256 .f32 :=
  mulf (mulf (subf (broadcastTo S64x256 (extractStridedSlice S64x1 ![0, i] v1 (col_slices i h)) broadcasts_S64x1_S64x256) v3)
      (subf (broadcastTo S64x256 (extractStridedSlice S64x1 ![0, i] v1 (col_slices i h)) broadcasts_S64x1_S64x256) v3))
    (broadcastTo S64x256 (extractStridedSlice S1x256 ![i, 0] v16 (row_slices i h)) broadcasts_S1x256_S64x256)

/-- The body's stores, last first, are the family of slabs. -/
theorem out_eq_slabs {F : FTy → Type} [FloatOps F] [Named F] (x0 : Vec F S1x64x128 .f32) (x1 : Vec F S1x64x256 .f32) (x2 : Vec F S64x64 .f32) :
    out0_3 x0 x1 x2 = View.canon (List.ofFn fun k : Fin 128 =>
      (⟨Rect.unit (s := S64x32768) ![0, 256 * (127 - k.val)] S64x256.size (slab_inb (127 - k.val) (by omega)),
        slab (127 - k.val) (by omega) (k0_pay156 x0 x1 x2) (k0_pay157 x0 x1 x2) (k0_pay158 x0 x1 x2)⟩ :
        View.Piece (Elt F) S64x32768 .f32)) := rfl

/-- A slab at a row `f` and a column `j`. -/
theorem slab_apply (i : Nat) (h : i < 128) (v1 : FVec Ideal S64x128 .f32) (v3 : FVec Ideal S64x256 .f32)
    (v16 : FVec Ideal S128x256 .f32) (f : Fin 64) (j : Fin 256) :
    slab i h v1 v3 v16 (ix2 f j)
      = (v1 (ix2 f ⟨i, h⟩) - v3 (ix2 f j)) * (v1 (ix2 f ⟨i, h⟩) - v3 (ix2 f j)) * v16 (ix2 ⟨i, h⟩ j) := by
  pointwise [slab]

/-- The block a grid point leaves, at row `f` and column `256 * i + j`. -/
theorem out_apply (x0 : Vec Ideal S1x64x128 .f32) (x1 : Vec Ideal S1x64x256 .f32) (x2 : Vec Ideal S64x64 .f32)
    (f : Fin 64) (i : Fin 128) (j : Fin 256) (r : Fin 32768) (hr : r.val = 256 * i.val + j.val) :
    out0_3 x0 x1 x2 (ix2 f r)
      = (k0_pay156 x0 x1 x2 (ix2 f i) - k0_pay157 x0 x1 x2 (ix2 f j))
        * (k0_pay156 x0 x1 x2 (ix2 f i) - k0_pay157 x0 x1 x2 (ix2 f j)) * k0_pay158 x0 x1 x2 (ix2 i j) := by
  rw [out_eq_slabs]
  refine View.canon_ofFn_unit_eq_of_forall (Val := Elt Ideal) (e := .f32) (S := S64x32768)
    (fun k : Fin 128 => ![0, 256 * (127 - k.val)]) S64x256.size (fun k => slab_inb (127 - k.val) (by omega))
    (fun k => slab (127 - k.val) (by omega) (k0_pay156 x0 x1 x2) (k0_pay157 x0 x1 x2) (k0_pay158 x0 x1 x2)) _ _
    ⟨⟨127 - i.val, by omega⟩, fun a => ?_⟩ fun k x hx => ?_
  · fin_cases a
    · exact ⟨Nat.zero_le _, by simpa using f.isLt⟩
    · show 256 * (127 - (127 - i.val)) ≤ r.val ∧ r.val < 256 * (127 - (127 - i.val)) + 256
      omega
  · obtain ⟨g, l, rfl⟩ : ∃ (g : Fin 64) (l : Fin 256), x = ix2 g l := ⟨x 0, x 1, eq_ix2 x⟩
    have h0 : f.val = 0 + g.val := hx 0
    have h1 : r.val = 256 * (127 - k.val) + l.val := hx 1
    obtain rfl : f = g := Fin.ext (by omega)
    obtain rfl : j = l := Fin.ext (by omega)
    obtain rfl : i = ⟨127 - k.val, Nat.lt_of_le_of_lt (Nat.sub_le _ _) (by decide)⟩ := Fin.ext (show i.val = 127 - k.val by omega)
    exact slab_apply _ _ _ _ _ _ _

end Cert.Proof.Block
-- ==== Proof.Model.lean ====
/- The mathematics both programs compute, over extended reals, as plain functions of the three arguments: `z` and `m`
   (8 graphs of 256 nodes with 64 features each) and the weight matrix `w` (64 by 64: its first 32 rows make the
   queries, its last 32 rows the keys). -/
module

public import Idealize.ShloMosaic.Lib.Pointwise

@[expose] public section

noncomputable section

namespace Cert.Proof.Model

open Idealize.ShloMosaic

/-- Eight graphs of 256 nodes, 64 features each. -/
abbrev Nodes : Type := (⟨3, ![8, 256, 64]⟩ : Shape).Idx → EReal
/-- The weight matrix. -/
abbrev Mat : Type := (⟨2, ![64, 64]⟩ : Shape).Idx → EReal

/-- The query scale `1/√32`. -/
def scale : EReal := (((Real.sqrt 32)⁻¹ : ℝ) : EReal)

/-- Coordinate `a` of the scaled query of node `i` of graph `b`. -/
def query (z : Nodes) (w : Mat) (b : Fin 8) (i : Fin 256) (a : Fin 32) : EReal :=
  (∑ k : Fin 64, w (ix2 ⟨a.val, by omega⟩ k) * z (ix3 b i k)) * scale

/-- Coordinate `a` of the key of node `j` of graph `b`. -/
def key (m : Nodes) (w : Mat) (b : Fin 8) (j : Fin 256) (a : Fin 32) : EReal :=
  ∑ k : Fin 64, w (ix2 ⟨32 + a.val, by omega⟩ k) * m (ix3 b j k)

/-- The exponential of a query's product with a key. -/
def expo (z m : Nodes) (w : Mat) (b : Fin 8) (i j : Fin 256) : EReal :=
  Ideal.exp (∑ a : Fin 32, query z w b i a * key m w b j a)

/-- The attention weight of the edge from `i` to `j`: the exponential over the sum of `i`'s exponentials. -/
def weight (z m : Nodes) (w : Mat) (b : Fin 8) (i j : Fin 256) : EReal :=
  Ideal.div (expo z m w b i j) (∑ l : Fin 256, expo z m w b i l)

/-- The result at feature `f` of the edge from `i` to `j` in graph `b`. -/
def edge (z m : Nodes) (w : Mat) (b : Fin 8) (i j : Fin 256) (f : Fin 64) : EReal :=
  (z (ix3 b i f) - m (ix3 b j f)) * (z (ix3 b i f) - m (ix3 b j f)) * weight z m w b i j

end Cert.Proof.Model
-- ==== Proof.Weights.lean ====
/- One grid point's block as a function of the three input blocks: query features, key features, weight matrix. -/
module

public import proofs.«01_k».proof.Proof.Block
public import proofs.«01_k».proof.Proof.Model

@[expose] public section

set_option maxRecDepth 16384

noncomputable section

namespace Cert.Proof.Block

open Idealize.ShloMosaic Idealize.SL.Sem Cert.KernelIdeal Cert.KernelIdeal.Gen

/-- The kernel's named constant is the query scale. -/
theorem named_scale : Named.named (F := Ideal) κ "scale" (φ := .f32) 0x3E3504F3#32 = Model.scale :=
  IdealRules.named_const.ideal_named_scalar _ _ _ _ rfl

/-- If the query block holds nodes `128 * p …` of graph `b`, the key block all nodes of graph `b` (both with features as
    rows), and the third block the weight matrix, then the block left at row `f`, column `256 * i + j` is the result at
    feature `f` of the edge from node `128 * p + i` to node `j`. -/
theorem out_edge (z m : Model.Nodes) (w : Model.Mat) (b : Fin 8) (p : Fin 2)
    (x0 : Vec Ideal S1x64x128 .f32) (x1 : Vec Ideal S1x64x256 .f32) (x2 : Vec Ideal S64x64 .f32)
    (h0 : ∀ (f : Fin 64) (i : Fin 128), x0 (ix3 0 f i) = z (ix3 b ⟨128 * p.val + i.val, by omega⟩ f))
    (h1 : ∀ (f : Fin 64) (j : Fin 256), x1 (ix3 0 f j) = m (ix3 b j f))
    (h2 : ∀ (r l : Fin 64), x2 (ix2 r l) = w (ix2 r l))
    (f : Fin 64) (i : Fin 128) (j : Fin 256) (r : Fin 32768) (hr : r.val = 256 * i.val + j.val) :
    out0_3 x0 x1 x2 (ix2 f r) = Model.edge z m w b ⟨128 * p.val + i.val, by omega⟩ j f := by
  rw [out_apply x0 x1 x2 f i j r hr]
  pointwise [k0_pay156, k0_pay157, k0_pay158, k0_pay3, k0_pay1, k0_pay2]
  simp only [h0, h1, h2, named_scale]
  rfl

end Cert.Proof.Block
-- ==== Proof.Array.lean ====
/- The kernel's array and result after the run: every grid point's block lies where its graph and its half of the query
   nodes say, the blocks fill the array, and the host's last transpose turns features from rows into columns. -/
module

public import proofs.«01_k».proof.Proof.Weights
public import Idealize.ShloMosaic.Lib.Claim

@[expose] public section

set_option maxRecDepth 16384

noncomputable section

namespace Cert.Proof.Array

open Idealize.ShloMosaic Idealize.SL.Sem Cert.KernelIdeal Cert.KernelIdeal.Gen Idealize.ShloMosaic.Pipeline

variable (m : (ℓ : Loc nD τ sig) → Buf (Elt Ideal) ℓ)

/-- Where each window's block stands at point `t`: graph `t / 2`, half `t % 2` of the query nodes. -/
theorem idx : ∀ t : Fin cfg0.N, win0_0.index t = ![t.val / 2, 0, t.val % 2] ∧ win0_1.index t = ![t.val / 2, 0, 0]
    ∧ win0_2.index t = ![0, 0] ∧ win0_3.index t = ![0, t.val] := by decide +kernel

/-- The first operand of the launch is the first argument with nodes and features swapped. -/
theorem V_v0 (c : Dev nD) : V m c main_v0
    = transpose S8x64x256 [0, 2, 1] (m (c.tc.loc main_arg0)) transposes_S8x256x64_S8x64x256_0_2_1 := by
  show StableHlo.after hostOps0 (fun b => m (c, b)) (Proc.tc.devRef main_v0) = _
  after_results

/-- The second operand of the launch is the second argument with nodes and features swapped. -/
theorem V_v1 (c : Dev nD) : V m c main_v1
    = transpose S8x64x256 [0, 2, 1] (m (c.tc.loc main_arg1)) transposes_S8x256x64_S8x64x256_0_2_1 := by
  show StableHlo.after hostOps0 (fun b => m (c, b)) (Proc.tc.devRef main_v1) = _
  after_results

/-- The query block at point `t`, read from the first argument. -/
theorem blk0 (c : Dev nD) (t : Fin cfg0.N) (f : Fin 64) (i : Fin 128) (h1 : t.val / 2 < 8)
    (h2 : 128 * (t.val % 2) + i.val < 256) :
    iblk m c 0 t (ix3 0 f i) = m (c.tc.loc main_arg0) (ix3 ⟨t.val / 2, h1⟩ ⟨128 * (t.val % 2) + i.val, h2⟩ f) := by
  show V m c main_v0 (((cfg0.win 0).blk t).view.emb (ix3 0 f i)) = _
  rw [V_v0]
  pointwise
  blk_ext [idx t]

/-- The key block at point `t`, read from the second argument. -/
theorem blk1 (c : Dev nD) (t : Fin cfg0.N) (f : Fin 64) (j : Fin 256) (h1 : t.val / 2 < 8) :
    iblk m c 1 t (ix3 0 f j) = m (c.tc.loc main_arg1) (ix3 ⟨t.val / 2, h1⟩ j f) := by
  show V m c main_v1 (((cfg0.win 1).blk t).view.emb (ix3 0 f j)) = _
  rw [V_v1]
  pointwise
  blk_ext [idx t]

/-- The weight block at point `t` is the third argument. -/
theorem blk2 (c : Dev nD) (t : Fin cfg0.N) (r l : Fin 64) :
    iblk m c 2 t (ix2 r l) = m (c.tc.loc main_arg2) (ix2 r l) := by
  show V m c main_arg2 (((cfg0.win 2).blk t).view.emb (ix2 r l)) = _
  rw [V_main_arg2]
  blk_ext [idx t]

/-- The result at feature `f` of edge number `e`: edges run over graphs, query nodes and key nodes, in that order. -/
def edgeAt (z k : Model.Nodes) (w : Model.Mat) (f : Fin 64) (e : Fin 524288) : EReal :=
  Model.edge z k w ⟨e.val / 65536, by omega⟩ ⟨e.val / 256 % 256, by omega⟩ ⟨e.val % 256, by omega⟩ f

/-- The launch's array after the run: features as rows, edges as columns. -/
theorem arr (c : Dev nD) : (dats m 0 c).arrAt 3 cfg0.N
    = fun y : S64x524288.Idx => edgeAt (m (c.tc.loc main_arg0)) (m (c.tc.loc main_arg1)) (m (c.tc.loc main_arg2)) (y 0) (y 1) := by
  refine (dats m 0 c).arrAt_eq_of_covers 3 _ (by decide +kernel) fun t hf y => ?_
  have e0 : ((win0_3.blk t).view.emb y 0 : Nat) = y 0 := by blk_simp [idx t]
  have e1 : ((win0_3.blk t).view.emb y 1 : Nat) = t.val * 32768 + y 1 := by blk_simp [idx t]
  blk_simp
  rw [after0_3]
  have ht : t.val < 16 := t.isLt
  obtain ⟨f, r, hy⟩ : ∃ (f : Fin 64) (r : Fin 32768), y = ix2 f r := ⟨y 0, y 1, eq_ix2 y⟩
  subst hy
  have e0' : ((win0_3.blk t).view.emb (ix2 f r) 0 : Nat) = f.val := e0
  have e1' : ((win0_3.blk t).view.emb (ix2 f r) 1 : Nat) = t.val * 32768 + r.val := e1
  refine (Block.out_edge (m (c.tc.loc main_arg0)) (m (c.tc.loc main_arg1)) (m (c.tc.loc main_arg2)) ⟨t.val / 2, by omega⟩
    ⟨t.val % 2, by omega⟩ (iblk m c 0 t) (iblk m c 1 t) (iblk m c 2 t) (fun f i => blk0 m c t f i _ _)
    (fun f j => blk1 m c t f j _) (fun r l => blk2 m c t r l) f ⟨r.val / 256, by omega⟩ ⟨r.val % 256, by omega⟩ r
    (by show r.val = 256 * (r.val / 256) + r.val % 256; omega)).trans ?_
  show _ = edgeAt _ _ _ ((win0_3.blk t).view.emb (ix2 f r) 0) ((win0_3.blk t).view.emb (ix2 f r) 1)
  unfold edgeAt
  congr 1
  · exact Fin.ext (by show t.val / 2 = _ / 65536; rw [e1']; omega)
  · exact Fin.ext (by show 128 * (t.val % 2) + r.val / 256 = _ / 256 % 256; rw [e1']; omega)
  · exact Fin.ext (by show r.val % 256 = _ % 256; rw [e1']; omega)
  · exact Fin.ext e0'.symm

/-- The value of the kernel's result buffer: edges as rows, features as columns. -/
def value (z k : Model.Nodes) (w : Model.Mat) : S524288x64.Idx → EReal := fun y => edgeAt z k w (y 1) (y 0)

/-- The result buffer as the host line after the launch leaves it. -/
theorem tail (c : Dev nD) : afterTail₀ cfgs (dats m) 0 (V0 m) [hostOps1] c main_v3
    = value (m (c.tc.loc main_arg0)) (m (c.tc.loc main_arg1)) (m (c.tc.loc main_arg2)) := by
  unfold afterTail₀
  show StableHlo.after hostOps1 _ (Proc.tc.devRef main_v3) = _
  after_results
  rw [show withArrays (cfgs 0).spec c (V0 m c) (fun w => (dats m 0 c).arrAt w (cfgs 0).N) (Proc.tc.devRef main_v2)
      = (dats m 0 c).arrAt 3 cfg0.N from
    withArrays_arr spec0 launch0.win.arr_inj c (V0 m c) (fun w => (dats m 0 c).arrAt w cfg0.N) 3, arr]
  funext y
  pointwise [value]

end Cert.Proof.Array
-- ==== Proof.Reference.lean ====
/- The reference's result, stage by stage: the edges' two index columns, the queries and keys, the exponentials, their
   sums per source node (an accumulating scatter), the weights, and the weighted squared differences. -/
module

public import proofs.«01_k».proof.Proof.Gen.ReferenceIdeal.Run
public import proofs.«01_k».proof.Proof.Model
public import Idealize.ShloMosaic.Lib.Pointwise
public import Idealize.ShloMosaic.Lib.IdealHost
public import Idealize.ShloMosaic.Lib.Routing.OpsSet
public import Idealize.ShloMosaic.Lib.Routing.OpsPair

@[expose] public section

set_option maxRecDepth 16384

noncomputable section

namespace Cert.Proof.Reference

open Idealize.ShloMosaic Idealize.SL.Sem Cert.ReferenceIdeal Cert.ReferenceIdeal.Gen

/-! ## The stages -/

/-- Every edge's source node: each of the 2048 query nodes, 256 times over. -/
def src : IVec S524288 32 :=
  shapeCast S524288 (broadcastInDim S2048x256 ![0] bcast_S2048_S2048x256_0 (iotaInDim S2048 32 0)) shapeCasts_S2048x256_S524288

/-- Every edge's target node, counted among the 2048 key nodes. -/
def tgt : IVec S524288 32 :=
  shapeCast S524288 (broadcastInDim S8x256x256 ![0, 1, 2] bcast_S8x1x256_S8x256x256_0_1_2
    (shapeCast S8x1x256 (iotaInDim S2048 32 0) shapeCasts_S2048_S8x1x256)) shapeCasts_S8x256x256_S524288

/-- One integer for every edge. -/
def all (n : BitVec 32) : IVec S524288 32 := broadcastInDim S524288 ![] bcast_S_S524288 (constantI S_ 32 n)

/-- Every edge's target node, counted among all 4096 nodes. -/
def dst : IVec S524288 32 := addi tgt (all 2048#32)

/-- An index vector as a column, negative entries counted from the end of `n` rows. -/
def col (n : BitVec 32) (x : IVec S524288 32) : IVec S524288x1 32 :=
  broadcastInDim S524288x1 ![0] bcast_S524288_S524288x1_0 (select (cmpi .slt x (all 0#32)) (addi x (all n)) x)

/-- All nodes' features times the transposed weight matrix. -/
def prod (z m : FVec Ideal S8x256x64 .f32) (w : FVec Ideal S64x64 .f32) : FVec Ideal S4096x64 .f32 :=
  Host.dotGeneral (φ₁ := .f32) (φ₂ := .f32) dot_S4096x64_S64x64_S4096x64_1_0_0_1_n_n none
    (Value.fn_main_v2 (F := Ideal) (shapeCast S2048x64 z shapeCasts_S8x256x64_S2048x64) (shapeCast S2048x64 m shapeCasts_S8x256x64_S2048x64))
    (transpose S64x64 [1, 0] w transposes_S64x64_S64x64_1_0)

/-- The query scale: one over the root of 32. -/
def root : FVec Ideal S_ .f32 := Host.divf (constant S_ .f32 0x3F800000#32) (Host.sqrt (constant S_ .f32 0x42000000#32))

/-- The scaled queries of all nodes. -/
def queries (z m : FVec Ideal S8x256x64 .f32) (w : FVec Ideal S64x64 .f32) : FVec Ideal S4096x32 .f32 :=
  mulf (extractStridedSlice S4096x32 ![0, 0] (prod z m w) slices_S4096x64_S4096x32_0_0)
    (broadcastInDim S4096x32 ![] bcast_S_S4096x32 root)

/-- The keys of all nodes. -/
def keys (z m : FVec Ideal S8x256x64 .f32) (w : FVec Ideal S64x64 .f32) : FVec Ideal S4096x32 .f32 :=
  extractStridedSlice S4096x32 ![0, 32] (prod z m w) slices_S4096x64_S4096x32_0_32

/-- Every edge's exponential. -/
def expos (z m : FVec Ideal S8x256x64 .f32) (w : FVec Ideal S64x64 .f32) : FVec Ideal S524288 .f32 :=
  Host.exp (Host.reduceAdd
    (mulf (Host.gather gather_S4096x32_S524288x1_S524288x32_1_0_n_n_0_1_132 (queries z m w) (col 4096#32 src))
      (Host.gather gather_S4096x32_S524288x1_S524288x32_1_0_n_n_0_1_132 (keys z m w) (col 4096#32 dst)))
    (constant S_ .f32 0x00000000#32) reducesTo_S524288x32_S524288_d1 h_S_)

/-- The sum of the exponentials of each source node's edges. -/
def sums (z m : FVec Ideal S8x256x64 .f32) (w : FVec Ideal S64x64 .f32) : FVec Ideal S2048 .f32 :=
  Host.scatterAdd scatter_S2048_S524288x1_S524288_n_0_0_1
    (broadcastInDim S2048 ![] bcast_S_S2048 (constant S_ .f32 0x00000000#32))
    (broadcastInDim S524288x1 ![0] bcast_S524288_S524288x1_0 src) (expos z m w)

/-- Every edge's weight. -/
def weights (z m : FVec Ideal S8x256x64 .f32) (w : FVec Ideal S64x64 .f32) : FVec Ideal S524288 .f32 :=
  Host.divf (expos z m w) (Host.gather gather_S2048_S524288x1_S524288_n_0_n_n_0_1_1 (sums z m w) (col 2048#32 src))

/-- Every edge's difference of features. -/
def diffs (z m : FVec Ideal S8x256x64 .f32) : FVec Ideal S524288x64 .f32 :=
  subf (Host.gather gather_S2048x64_S524288x1_S524288x64_1_0_n_n_0_1_164
      (shapeCast S2048x64 z shapeCasts_S8x256x64_S2048x64) (col 2048#32 src))
    (Host.gather gather_S2048x64_S524288x1_S524288x64_1_0_n_n_0_1_164
      (shapeCast S2048x64 m shapeCasts_S8x256x64_S2048x64) (col 2048#32 (subi dst (all 2048#32))))

/-- The result: squared differences times weights. -/
def result (z m : FVec Ideal S8x256x64 .f32) (w : FVec Ideal S64x64 .f32) : FVec Ideal S524288x64 .f32 :=
  mulf (mulf (diffs z m) (diffs z m))
    (broadcastInDim S524288x64 ![0, 1] bcast_S524288x1_S524288x64_0_1
      (broadcastInDim S524288x1 ![0] bcast_S524288_S524288x1_0 (weights z m w)))

/-- The run's composed term is the last stage. -/
theorem res_eq (m : (ℓ : Loc nD τ sig) → Buf (Elt Ideal) ℓ) (c : Dev nD) : Value.res_out0 m c
    = result (m (c.tc.loc main_arg0)) (m (c.tc.loc main_arg1)) (m (c.tc.loc main_arg2)) := rfl

/-! ## The index columns -/

/-- Edge `e` starts at node `e / 256`. -/
theorem src_apply (e : Fin 524288) : src (ix1 e) = BitVec.ofNat 32 (e.val / 256) := by
  pointwise [src]

/-- Edge `e` ends at node `e % 256` of graph `e / 65536`. -/
theorem tgt_apply (e : Fin 524288) : tgt (ix1 e) = BitVec.ofNat 32 (256 * (e.val / 65536) + e.val % 256) := by
  pointwise [tgt]
  rw [Nat.mul_comm]

/-- One integer for every edge, at an edge. -/
theorem all_apply (n : BitVec 32) (e : Fin 524288) : all n (ix1 e) = n := by
  pointwise [all]

/-- Where an index vector holds a number that is not negative, its column holds the same number. -/
theorem col_apply (n : BitVec 32) (x : IVec S524288 32) (e : Fin 524288) (h : (x (ix1 e)).toNat < 2 ^ 31) :
    col n x (ix2 e 0) = x (ix1 e) := by
  pointwise [col]
  rw [all_apply]
  exact Routing.wrap_of_lt _ _ h

/-- A small number as a 32-bit word reads back as itself. -/
theorem toNat_word (k : Nat) (h : k < 2 ^ 31) : (BitVec.ofNat 32 k).toNat = k := by
  rw [BitVec.toNat_ofNat]; omega

/-- The source column holds the source nodes. -/
theorem col_src (n : BitVec 32) (e : Fin 524288) : col n src (ix2 e 0) = BitVec.ofNat 32 (e.val / 256) := by
  rw [col_apply n src e (by rw [src_apply, toNat_word _ (by omega)]; omega), src_apply]

/-- Edge `e`'s target node among all nodes. -/
theorem dst_apply (e : Fin 524288) : dst (ix1 e) = BitVec.ofNat 32 (2048 + (256 * (e.val / 65536) + e.val % 256)) := by
  show tgt (ix1 e) + all 2048#32 (ix1 e) = _
  rw [tgt_apply, all_apply, ← BitVec.ofNat_add, Nat.add_comm]

/-- The target column among all nodes. -/
theorem col_dst (n : BitVec 32) (e : Fin 524288) :
    col n dst (ix2 e 0) = BitVec.ofNat 32 (2048 + (256 * (e.val / 65536) + e.val % 256)) := by
  rw [col_apply n dst e (by rw [dst_apply, toNat_word _ (by omega)]; omega), dst_apply]

/-- Taking 2048 away again leaves the target among the key nodes. -/
theorem back_apply (e : Fin 524288) :
    subi dst (all 2048#32) (ix1 e) = BitVec.ofNat 32 (256 * (e.val / 65536) + e.val % 256) := by
  show tgt (ix1 e) + all 2048#32 (ix1 e) - all 2048#32 (ix1 e) = _
  rw [BitVec.add_sub_cancel, tgt_apply]

/-- The target column among the key nodes. -/
theorem col_back (n : BitVec 32) (e : Fin 524288) :
    col n (subi dst (all 2048#32)) (ix2 e 0) = BitVec.ofNat 32 (256 * (e.val / 65536) + e.val % 256) := by
  rw [col_apply n _ e (by rw [back_apply, toNat_word _ (by omega)]; omega), back_apply]

end Cert.Proof.Reference
-- ==== Proof.RefValue.lean ====
/- The reference's stages read at an index, down to the plain functions of the arguments. -/
module

public import proofs.«01_k».proof.Proof.Reference

@[expose] public section

set_option maxRecDepth 16384

noncomputable section

namespace Cert.Proof.Reference

open Idealize.ShloMosaic Idealize.SL.Sem Cert.ReferenceIdeal Cert.ReferenceIdeal.Gen

variable (z m : FVec Ideal S8x256x64 .f32) (w : FVec Ideal S64x64 .f32)

/-- The two names of an index of a vector are one. -/
theorem ix1_eq {N : Nat} (i : Fin N) : (ValueIdx.ix1 i : (⟨1, ![N]⟩ : Shape).Idx) = ix1 i := rfl

/-- The two names of an index of a matrix are one. -/
theorem ix2_eq {A B : Nat} (i : Fin A) (j : Fin B) : (ValueIdx.ix2 i j : (⟨2, ![A, B]⟩ : Shape).Idx) = ix2 i j := rfl

/-- An accumulating scatter at an element: the operand's element plus the updates that land there. -/
theorem scatterAdd_apply {s si su : Shape} (d : ScatterDims s si su) (x : FVec Ideal s .f32) (idx : IVec si 32)
    (upd : FVec Ideal su .f32) (i : s.Idx) : Host.scatterAdd d x idx upd i
      = x i + ∑ j ∈ Finset.univ.filter (fun j => d.resultIdx? j idx = some i), upd j := rfl

/-- The word of the number one. -/
theorem word_one : Ideal.ofBits .f32 0x3F800000#32 = ((1 : ℝ) : EReal) := by
  simp [Ideal.ofBits, Ideal.ieee, -EReal.coe_mul]; norm_num

/-- The word of the number thirty-two. -/
theorem word_32 : Ideal.ofBits .f32 0x42000000#32 = ((32 : ℝ) : EReal) := by
  simp [Ideal.ofBits, Ideal.ieee, -EReal.coe_mul]; norm_num

/-- One over the host's root of 32 is the query scale, exactly. -/
theorem root_apply (i : S_.Idx) : root i = Model.scale := by
  have hpos : Real.sqrt 32 ≠ 0 := (Real.sqrt_pos.mpr (by norm_num)).ne'
  show Ideal.div (Ideal.ofBits .f32 0x3F800000#32) (Ideal.sqrt (Ideal.ofBits .f32 0x42000000#32)) = _
  rw [word_one, word_32, Ideal.sqrt_coe, if_neg (by norm_num), Ideal.div_coe hpos, ← EReal.coe_mul, one_mul, one_div]
  rfl

/-- The scaled query of query node `n`. -/
theorem queries_apply (n : Fin 2048) (r : Fin 4096) (hr : r.val = n.val) (a : Fin 32) :
    queries z m w (ix2 r a) = Model.query z w ⟨n.val / 256, by omega⟩ ⟨n.val % 256, by omega⟩ a := by
  have h : r.val < 2048 := by omega
  pointwise [queries, prod, Value.fn_main_v2]
  rw [root_apply]
  refine congrArg (· * Model.scale) (Finset.sum_congr rfl fun k _ => ?_)
  rw [dif_pos h, EReal.mul_comm]
  simp only [hr]

/-- The key of key node `n`. -/
theorem keys_apply (n : Fin 2048) (r : Fin 4096) (hr : r.val = 2048 + n.val) (a : Fin 32) :
    keys z m w (ix2 r a) = Model.key m w ⟨n.val / 256, by omega⟩ ⟨n.val % 256, by omega⟩ a := by
  have h : ¬ r.val < 2048 := by omega
  have h' : r.val - 2048 = n.val := by omega
  pointwise [keys, prod, Value.fn_main_v2]
  refine Finset.sum_congr rfl fun k _ => ?_
  rw [dif_neg h, EReal.mul_comm]
  simp only [h']

/-- A row gathered for edge `e` out of a table of `n` rows. -/
theorem rows_apply {nb B : Nat} (d : GatherDims (Routing.shape2 nb B) (Routing.shape2 524288 1) (Routing.shape2 524288 B))
    (hoff : d.offsetDims = [1]) (hcoll : d.collapsedSliceDims = [0]) (hob : d.operandBatchingDims = [])
    (hsim : d.startIndexMap = [0]) (hivd : d.indexVectorDim = 1) (hnb : nb < 2 ^ 31)
    (x : (Routing.shape2 nb B).Idx → EReal) (idx : IVec (Routing.shape2 524288 1) 32) (e : Fin 524288) (y : Fin B) (b : Fin nb)
    (hb : idx (ix2 e 0) = BitVec.ofNat 32 b.val) : Host.gather d x idx (ix2 e y) = x (ix2 b y) :=
  Routing.gather_row d hoff hcoll hob hsim hivd x idx e y b hb hnb

/-- Edge `e`'s exponential. -/
theorem expos_apply (e : Fin 524288) : expos z m w (ix1 e)
    = Model.expo z m w ⟨e.val / 65536, by omega⟩ ⟨e.val / 256 % 256, by omega⟩ ⟨e.val % 256, by omega⟩ := by
  pointwise [expos]
  refine congrArg Ideal.exp (Finset.sum_congr rfl fun a _ => ?_)
  rw [rows_apply gather_S4096x32_S524288x1_S524288x32_1_0_n_n_0_1_132 rfl rfl rfl rfl rfl (by norm_num) (queries z m w) _ e a
      ⟨e.val / 256, by omega⟩ (col_src _ e),
    rows_apply gather_S4096x32_S524288x1_S524288x32_1_0_n_n_0_1_132 rfl rfl rfl rfl rfl (by norm_num) (keys z m w) _ e a
      ⟨2048 + (256 * (e.val / 65536) + e.val % 256), by omega⟩ (col_dst _ e),
    queries_apply z m w ⟨e.val / 256, by omega⟩ _ rfl, keys_apply z m w ⟨256 * (e.val / 65536) + e.val % 256, by omega⟩ _ rfl]
  congr 2
  · exact Fin.ext (show e.val / 256 / 256 = e.val / 65536 by omega)
  · exact Fin.ext (show (256 * (e.val / 65536) + e.val % 256) / 256 = e.val / 65536 by omega)
  · exact Fin.ext (show (256 * (e.val / 65536) + e.val % 256) % 256 = e.val % 256 by omega)

/-- The source column at edge `e`. -/
theorem plain_src (e : Fin 524288) :
    broadcastInDim S524288x1 ![0] bcast_S524288_S524288x1_0 src (ix2 e 0) = BitVec.ofNat 32 (e.val / 256) := by
  pointwise
  exact src_apply e

/-- Where update `i` of a one-column scatter into a vector starts: the integer its row of the column holds. -/
theorem scatter_start {N n : Nat} (d : ScatterDims (Routing.shape1 N) (Routing.shape2 n 1) (Routing.shape1 n))
    (hmap : d.scatterDimsToOperandDims = [0]) (hvec : d.indexVectorDim = 1) (idx : IVec (Routing.shape2 n 1) 32) (i : Fin n) :
    d.start (ix1 i) idx 0 = (idx (ix2 i 0)).toInt := by
  have hmem : (0 : Fin 1) ∈ d.scatterDimsToOperandDims := hmap ▸ List.mem_singleton.mpr rfl
  unfold ScatterDims.start
  rw [dif_pos hmem]
  refine congrArg (fun p => (idx p).toInt) (funext fun b => Fin.ext ?_)
  match b with
  | ⟨0, _⟩ =>
    unfold ScatterDims.siIdx
    rw [dif_neg (by rw [hvec]; exact Nat.zero_ne_one)]
    unfold ScatterDims.siCoord
    exact congrArg (fun q => ((ix1 i : (Routing.shape1 n).Idx) q).val) (Subsingleton.elim (α := Fin 1) _ 0)
  | ⟨1, _⟩ =>
    exact congrArg Fin.val (Subsingleton.elim (α := Fin 1) _ 0)

/-- Update `e` of the scatter lands at the source node of edge `e`. -/
theorem lands (e : Fin 524288) (n : Fin 2048) :
    scatter_S2048_S524288x1_S524288_n_0_0_1.resultIdx? (ix1 e) (broadcastInDim S524288x1 ![0] bcast_S524288_S524288x1_0 src)
      = some (ix1 n) ↔ e.val / 256 = n.val := by
  have h1 : scatter_S2048_S524288x1_S524288_n_0_0_1.window (ix1 e) 0 = 0 := rfl
  have h2 : scatter_S2048_S524288x1_S524288_n_0_0_1.start (ix1 e) (broadcastInDim S524288x1 ![0] bcast_S524288_S524288x1_0 src) 0
      = (e.val / 256 : Nat) := by
    refine (scatter_start scatter_S2048_S524288x1_S524288_n_0_0_1 rfl rfl _ e).trans ?_
    rw [plain_src, StableHlo.Predicate.toInt_ofNat_small _ (by omega)]
  refine (Routing.resultIdx?_ix1 scatter_S2048_S524288x1_S524288_n_0_0_1 (ix1 e) _ n).trans ?_
  rw [h1, h2]
  omega

/-- The sum of source node `n`'s exponentials. -/
theorem sums_apply (n : Fin 2048) : sums z m w (ix1 n) = ∑ l : Fin 256,
    Model.expo z m w ⟨n.val / 256, by omega⟩ ⟨n.val % 256, by omega⟩ l := by
  unfold sums
  rw [scatterAdd_apply]
  pointwise
  symm
  refine Finset.sum_bij (fun l _ => ix1 ⟨256 * n.val + l.val, by omega⟩) (fun l _ => ?_) (fun l _ l' _ h => ?_) (fun j hj => ?_)
    (fun l _ => ?_)
  · rw [Finset.mem_filter]
    exact ⟨Finset.mem_univ _, (lands _ n).mpr (show (256 * n.val + l.val) / 256 = n.val by omega)⟩
  · have := congrArg Fin.val (congrFun h 0)
    exact Fin.ext (by change 256 * n.val + l.val = 256 * n.val + l'.val at this; omega)
  · obtain ⟨e, rfl⟩ : ∃ e : Fin 524288, j = ix1 e := ⟨j 0, eq_ix1 j⟩
    have h := (lands e n).mp (Finset.mem_filter.mp hj).2
    exact ⟨⟨e.val % 256, by omega⟩, Finset.mem_univ _, congrArg ix1 (Fin.ext (show 256 * n.val + e.val % 256 = e.val by omega))⟩
  · rw [expos_apply]
    congr 1
    · exact Fin.ext (show n.val / 256 = (256 * n.val + l.val) / 65536 by omega)
    · exact Fin.ext (show n.val % 256 = (256 * n.val + l.val) / 256 % 256 by omega)
    · exact Fin.ext (show l.val = (256 * n.val + l.val) % 256 by omega)

/-- Edge `e`'s weight. -/
theorem weights_apply (e : Fin 524288) : weights z m w (ix1 e)
    = Model.weight z m w ⟨e.val / 65536, by omega⟩ ⟨e.val / 256 % 256, by omega⟩ ⟨e.val % 256, by omega⟩ := by
  pointwise [weights]
  rw [expos_apply, show Host.gather gather_S2048_S524288x1_S524288_n_0_n_n_0_1_1 (sums z m w) (col (2048#32) src) (ix1 e)
      = sums z m w (ix1 ⟨e.val / 256, by omega⟩) from
    Routing.gather_take1 gather_S2048_S524288x1_S524288_n_0_n_n_0_1_1 rfl rfl rfl rfl (sums z m w) _ e ⟨e.val / 256, by omega⟩
      (col_src _ e) (by norm_num), sums_apply]
  refine congrArg (Ideal.div _) (Finset.sum_congr rfl fun l _ => ?_)
  congr 1
  exact Fin.ext (show e.val / 256 / 256 = e.val / 65536 by omega)

/-- Edge `e`'s difference of features. -/
theorem diffs_apply (e : Fin 524288) (f : Fin 64) : diffs z m (ix2 e f)
    = z (ix3 ⟨e.val / 65536, by omega⟩ ⟨e.val / 256 % 256, by omega⟩ f) - m (ix3 ⟨e.val / 65536, by omega⟩ ⟨e.val % 256, by omega⟩ f) := by
  pointwise [diffs]
  rw [rows_apply gather_S2048x64_S524288x1_S524288x64_1_0_n_n_0_1_164 rfl rfl rfl rfl rfl (by norm_num) (shapeCast S2048x64 z shapeCasts_S8x256x64_S2048x64) _ e f
      ⟨e.val / 256, by omega⟩ (col_src _ e),
    rows_apply gather_S2048x64_S524288x1_S524288x64_1_0_n_n_0_1_164 rfl rfl rfl rfl rfl (by norm_num) (shapeCast S2048x64 m shapeCasts_S8x256x64_S2048x64) _ e f
      ⟨256 * (e.val / 65536) + e.val % 256, by omega⟩ (col_back _ e)]
  pointwise
  congr 3
  · exact Fin.ext (show e.val / 256 / 256 = e.val / 65536 by omega)
  · exact Fin.ext (show (256 * (e.val / 65536) + e.val % 256) / 256 = e.val / 65536 by omega)
  · exact Fin.ext (show (256 * (e.val / 65536) + e.val % 256) % 256 = e.val % 256 by omega)

/-- The result at edge `e` and feature `f`. -/
theorem result_apply (e : Fin 524288) (f : Fin 64) : result z m w (ix2 e f) =
    Model.edge z m w ⟨e.val / 65536, by omega⟩ ⟨e.val / 256 % 256, by omega⟩ ⟨e.val % 256, by omega⟩ f := by
  pointwise [result]
  rw [diffs_apply, weights_apply]
  rfl

end Cert.Proof.Reference
-- ==== Proof.Equal.lean ====
/- The two programs' results are one array. -/
module

public import proofs.«01_k».proof.Defs
public import proofs.«01_k».proof.Proof.Array
public import proofs.«01_k».proof.Proof.RefValue

@[expose] public section

noncomputable section

namespace Cert.Proof

open Idealize.ShloMosaic Idealize.SL.Sem

/-- The reference's result, element by element, is the array the kernel's launch and its host transpose leave. -/
theorem result_eq (z m : FVec Ideal Cert.ReferenceIdeal.S8x256x64 .f32) (w : FVec Ideal Cert.ReferenceIdeal.S64x64 .f32) :
    Reference.result z m w = Array.value z m w := by
  funext y
  refine (congrArg (Reference.result z m w) (eq_ix2 y)).trans ((Reference.result_apply z m w (y 0) (y 1)).trans ?_)
  rfl

/-- The idealized kernel's run: the result array in closed form, the arguments unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ fun r => ∀ c : Dev Cert.KernelIdeal.nD,
        r.2.mem (c.tc.loc Cert.KernelIdeal.main_v3)
          = Array.value (m (c.tc.loc Cert.KernelIdeal.main_arg0)) (m (c.tc.loc Cert.KernelIdeal.main_arg1)) (m (c.tc.loc Cert.KernelIdeal.main_arg2))
        ∧ r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2) :=
  θ_run_mono (θ_run_and (Cert.KernelIdeal.Gen.run_main m g) (Cert.KernelIdeal.Gen.unchanged m g)) fun _ h c =>
    ⟨((h.1 c).2 Cert.KernelIdeal.main_v3
      (Pipeline.mem_restRefs_of Cert.KernelIdeal.main_v3 (by decide) (by decide))).trans (Array.tail m c), h.2 c⟩

/-- The reference runs, leaves its arguments unchanged, and has no semaphore whose counter could differ from zero. -/
theorem reference_frame : Cert.quiescent_ReferenceIdeal (hReferenceIdeal := Cert.ReferenceIdeal.Gen.facts) := fun m g _ =>
  θ_run_mono (Cert.ReferenceIdeal.Value.run m g) fun _ h => ⟨fun c => (h c).2, sem_eq_zero_of_no_sems rfl _⟩

/-- The idealization's one rewrite: the kernel's scale is named, and the table gives the name the value `1/√32`. -/
theorem preserves : Cert.preserves_Kernel_KernelIdeal :=
  IdealRules.named_const.statement Cert.KernelIdeal.κ "scale" .f32 0x3E3504F3#32 (((Real.sqrt 32)⁻¹ : ℝ) : EReal) rfl

/-- From memories that agree on the arguments, the idealized kernel and the reference end with equal results. -/
theorem algebraic : Cert.algebraic_KernelIdeal_ReferenceIdeal (hKernelIdeal := Cert.KernelIdeal.Gen.facts)
    (hReferenceIdeal := Cert.ReferenceIdeal.Gen.facts) := by
  intro m g m' g' _ h
  refine ⟨fun c => Array.value (m (c.tc.loc Cert.KernelIdeal.main_arg0)) (m (c.tc.loc Cert.KernelIdeal.main_arg1))
    (m (c.tc.loc Cert.KernelIdeal.main_arg2)), kernel_run m g, ?_⟩
  refine θ_run_mono (Cert.ReferenceIdeal.Value.run m' g') fun _ hr c => ⟨(hr c).1.trans ?_, (hr c).2⟩
  obtain ⟨h0, h1, h2⟩ := h c
  refine (Reference.res_eq m' c).trans ?_
  rw [h0, h1, h2]
  exact result_eq _ _ _

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The five claims: the three frames, the idealization's one named constant, and the equality of the kernel's and the reference's results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, preserves, algebraic⟩

end Cert.Proof

end
